-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x288x170 : Shape := ⟨3, ![32, 288, 170]⟩
abbrev S32x170x24x2 : Shape := ⟨4, ![32, 170, 24, 2]⟩
abbrev S12x512 : Shape := ⟨2, ![12, 512]⟩
abbrev S512 : Shape := ⟨1, ![512]⟩
abbrev S288x512 : Shape := ⟨2, ![288, 512]⟩
abbrev S7x512 : Shape := ⟨2, ![7, 512]⟩
abbrev S_ : Shape := ⟨0, ![]⟩

class Facts : Prop where
  bcast_S_S32x170x24x2 : S_.BroadcastsInDim S32x170x24x2 (![] : Fin 0 → Fin S32x170x24x2.rank)
  reducesTo_S32x170x24x2_S_d0_1_2_3 : S32x170x24x2.ReducesTo [0, 1, 2, 3] S_
  h_S_ : 0 < S_.numel

variable [Facts]

def fn {F : FTy → Type} [FloatOps F] (main_arg0 : FVec F S32x288x170 .f32) (main_arg1 : IVec S32x170x24x2 32) (main_arg2 : FVec F S12x512 .f32) (main_arg3 : FVec F S512 .f32) (main_arg4 : FVec F S288x512 .f32) (main_arg5 : FVec F S7x512 .f32) : IVec S_ 1 :=
  let main_c : IVec S_ 32 := constantI S_ 32 0#32
  let main_v0 : IVec S32x170x24x2 32 := broadcastInDim S32x170x24x2 ![] bcast_S_S32x170x24x2 main_c
  let main_v1 : IVec S32x170x24x2 1 := cmpi .sge main_arg1 main_v0
  let main_c_0 : IVec S_ 32 := constantI S_ 32 7#32
  let main_v2 : IVec S32x170x24x2 32 := broadcastInDim S32x170x24x2 ![] bcast_S_S32x170x24x2 main_c_0
  let main_v3 : IVec S32x170x24x2 1 := cmpi .slt main_arg1 main_v2
  let main_v4 : IVec S32x170x24x2 1 := andi main_v1 main_v3
  let main_c_1 : IVec S_ 1 := constantI S_ 1 1#1
  let main_v5 : IVec S_ 1 := (fun x v => Host.reduce IntOp.andi x v reducesTo_S32x170x24x2_S_d0_1_2_3 h_S_) main_v4 main_c_1
  main_v5
-- ==== Kernel.lean ====
abbrev S32x288x170 : Shape := ⟨3, ![32, 288, 170]⟩
abbrev S32x170x24x2 : Shape := ⟨4, ![32, 170, 24, 2]⟩
abbrev S12x512 : Shape := ⟨2, ![12, 512]⟩
abbrev S512 : Shape := ⟨1, ![512]⟩
abbrev S288x512 : Shape := ⟨2, ![288, 512]⟩
abbrev S7x512 : Shape := ⟨2, ![7, 512]⟩
abbrev S32x170x24x1 : Shape := ⟨4, ![32, 170, 24, 1]⟩
abbrev S32x170x24 : Shape := ⟨3, ![32, 170, 24]⟩
abbrev S_ : Shape := ⟨0, ![]⟩
abbrev S32x288x256 : Shape := ⟨3, ![32, 288, 256]⟩
abbrev S1x512 : Shape := ⟨2, ![1, 512]⟩
abbrev S32x4080x512 : Shape := ⟨3, ![32, 4080, 512]⟩
abbrev S1x288x256 : Shape := ⟨3, ![1, 288, 256]⟩
abbrev S1x170x24 : Shape := ⟨3, ![1, 170, 24]⟩
abbrev S1x4080x512 : Shape := ⟨3, ![1, 4080, 512]⟩
abbrev S28x512 : Shape := ⟨2, ![28, 512]⟩
abbrev S288x256 : Shape := ⟨2, ![288, 256]⟩
abbrev S288x170 : Shape := ⟨2, ![288, 170]⟩
abbrev S24x12x170 : Shape := ⟨3, ![24, 12, 170]⟩
abbrev S12x170x24 : Shape := ⟨3, ![12, 170, 24]⟩
abbrev S12x4080 : Shape := ⟨2, ![12, 4080]⟩
abbrev S170x24 : Shape := ⟨2, ![170, 24]⟩
abbrev S1x4080 : Shape := ⟨2, ![1, 4080]⟩
abbrev S16x4080 : Shape := ⟨2, ![16, 4080]⟩
abbrev S28x4080 : Shape := ⟨2, ![28, 4080]⟩
abbrev S4080x512 : Shape := ⟨2, ![4080, 512]⟩
abbrev S32x170x24x512 : Shape := ⟨4, ![32, 170, 24, 512]⟩

abbrev nBuf : Space → Nat
  | .hbm => 21
  | .vmem => 11
  | .smem => 0
  | _ => 0

abbrev bufTy : (tb : Table) → Fin (tcTables nBuf tb) → BufTy
  | .hbm, ⟨0, _⟩ => ⟨S32x288x170, .f32⟩
  | .hbm, ⟨1, _⟩ => ⟨S32x170x24x2, .i32⟩
  | .hbm, ⟨2, _⟩ => ⟨S12x512, .f32⟩
  | .hbm, ⟨3, _⟩ => ⟨S512, .f32⟩
  | .hbm, ⟨4, _⟩ => ⟨S288x512, .f32⟩
  | .hbm, ⟨5, _⟩ => ⟨S7x512, .f32⟩
  | .hbm, ⟨6, _⟩ => ⟨S32x170x24x1, .i32⟩
  | .hbm, ⟨7, _⟩ => ⟨S32x170x24, .i32⟩
  | .hbm, ⟨8, _⟩ => ⟨S_, .i32⟩
  | .hbm, ⟨9, _⟩ => ⟨S32x170x24, .i32⟩
  | .hbm, ⟨10, _⟩ => ⟨S32x170x24, .i32⟩
  | .hbm, ⟨11, _⟩ => ⟨S32x170x24x1, .i32⟩
  | .hbm, ⟨12, _⟩ => ⟨S32x170x24, .i32⟩
  | .hbm, ⟨13, _⟩ => ⟨S32x170x24, .i32⟩
  | .hbm, ⟨14, _⟩ => ⟨S32x288x170, .bf16⟩
  | .hbm, ⟨15, _⟩ => ⟨S_, .i32⟩
  | .hbm, ⟨16, _⟩ => ⟨S_, .bf16⟩
  | .hbm, ⟨17, _⟩ => ⟨S32x288x256, .bf16⟩
  | .hbm, ⟨18, _⟩ => ⟨S1x512, .f32⟩
  | .hbm, ⟨19, _⟩ => ⟨S32x4080x512, .f32⟩
  | .hbm, ⟨20, _⟩ => ⟨S32x170x24x512, .f32⟩
  | .local _ .vmem, ⟨0, _⟩ => ⟨S1x288x256, .bf16⟩
  | .local _ .vmem, ⟨1, _⟩ => ⟨S1x288x256, .bf16⟩
  | .local _ .vmem, ⟨2, _⟩ => ⟨S1x170x24, .i32⟩
  | .local _ .vmem, ⟨3, _⟩ => ⟨S1x170x24, .i32⟩
  | .local _ .vmem, ⟨4, _⟩ => ⟨S12x512, .f32⟩
  | .local _ .vmem, ⟨5, _⟩ => ⟨S288x512, .f32⟩
  | .local _ .vmem, ⟨6, _⟩ => ⟨S7x512, .f32⟩
  | .local _ .vmem, ⟨7, _⟩ => ⟨S1x512, .f32⟩
  | .local _ .vmem, ⟨8, _⟩ => ⟨S1x4080x512, .f32⟩
  | .local _ .vmem, ⟨9, _⟩ => ⟨S1x4080x512, .f32⟩
  | .local _ .vmem, ⟨10, _⟩ => ⟨S28x512, .bf16⟩
  | _, _ => ⟨S32x288x170, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x170x24 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4080x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x288x170 : Shape := ⟨3, ![32, 288, 170]⟩
abbrev S32x170x24x2 : Shape := ⟨4, ![32, 170, 24, 2]⟩
abbrev S12x512 : Shape := ⟨2, ![12, 512]⟩
abbrev S512 : Shape := ⟨1, ![512]⟩
abbrev S288x512 : Shape := ⟨2, ![288, 512]⟩
abbrev S7x512 : Shape := ⟨2, ![7, 512]⟩
abbrev S32x24x12x170 : Shape := ⟨4, ![32, 24, 12, 170]⟩
abbrev S32x170x24x12 : Shape := ⟨4, ![32, 170, 24, 12]⟩
abbrev S130560x12 : Shape := ⟨2, ![130560, 12]⟩
abbrev S130560x512 : Shape := ⟨2, ![130560, 512]⟩
abbrev S1x512 : Shape := ⟨2, ![1, 512]⟩
abbrev S32x170x24x512 : Shape := ⟨4, ![32, 170, 24, 512]⟩
abbrev S32x170x24x1 : Shape := ⟨4, ![32, 170, 24, 1]⟩
abbrev S32x170x24 : Shape := ⟨3, ![32, 170, 24]⟩
abbrev S_ : Shape := ⟨0, ![]⟩
abbrev S1 : Shape := ⟨1, ![1]⟩
abbrev S1x1x1x1 : Shape := ⟨4, ![1, 1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S32x288x170, .f32⟩
  | .hbm, ⟨1, _⟩ => ⟨S32x170x24x2, .i32⟩
  | .hbm, ⟨2, _⟩ => ⟨S12x512, .f32⟩
  | .hbm, ⟨3, _⟩ => ⟨S512, .f32⟩
  | .hbm, ⟨4, _⟩ => ⟨S288x512, .f32⟩
  | .hbm, ⟨5, _⟩ => ⟨S7x512, .f32⟩
  | .hbm, ⟨6, _⟩ => ⟨S32x24x12x170, .f32⟩
  | .hbm, ⟨7, _⟩ => ⟨S32x170x24x12, .f32⟩
  | .hbm, ⟨8, _⟩ => ⟨S130560x12, .f32⟩
  | .hbm, ⟨9, _⟩ => ⟨S130560x512, .f32⟩
  | .hbm, ⟨10, _⟩ => ⟨S1x512, .f32⟩
  | .hbm, ⟨11, _⟩ => ⟨S130560x512, .f32⟩
  | .hbm, ⟨12, _⟩ => ⟨S130560x512, .f32⟩
  | .hbm, ⟨13, _⟩ => ⟨S32x170x24x512, .f32⟩
  | .hbm, ⟨14, _⟩ => ⟨S32x170x24x1, .i32⟩
  | .hbm, ⟨15, _⟩ => ⟨S32x170x24, .i32⟩
  | .hbm, ⟨16, _⟩ => ⟨S_, .i32⟩
  | .hbm, ⟨17, _⟩ => ⟨S32x170x24, .i32⟩
  | .hbm, ⟨18, _⟩ => ⟨S32x170x24, .i1⟩
  | .hbm, ⟨19, _⟩ => ⟨S_, .i32⟩
  | .hbm, ⟨20, _⟩ => ⟨S32x170x24, .i32⟩
  | .hbm, ⟨21, _⟩ => ⟨S32x170x24, .i32⟩
  | .hbm, ⟨22, _⟩ => ⟨S32x170x24, .i32⟩
  | .hbm, ⟨23, _⟩ => ⟨S32x170x24x1, .i32⟩
  | .hbm, ⟨24, _⟩ => ⟨S1, .i32⟩
  | .hbm, ⟨25, _⟩ => ⟨S_, .i32⟩
  | .hbm, ⟨26, _⟩ => ⟨S32x170x24x1, .i32⟩
  | .hbm, ⟨27, _⟩ => ⟨S32x170x24x1, .i1⟩
  | .hbm, ⟨28, _⟩ => ⟨S1x1x1x1, .i32⟩
  | .hbm, ⟨29, _⟩ => ⟨S32x170x24x1, .i32⟩
  | .hbm, ⟨30, _⟩ => ⟨S32x170x24x1, .i1⟩
  | .hbm, ⟨31, _⟩ => ⟨S32x170x24x1, .i1⟩
  | .hbm, ⟨32, _⟩ => ⟨S_, .i1⟩
  | .hbm, ⟨33, _⟩ => ⟨S32x170x24, .i1⟩
  | .hbm, ⟨34, _⟩ => ⟨S32x170x24x512, .f32⟩
  | .hbm, ⟨35, _⟩ => ⟨S32x170x24x512, .i1⟩
  | .hbm, ⟨36, _⟩ => ⟨S_, .f32⟩
  | .hbm, ⟨37, _⟩ => ⟨S32x170x24x512, .f32⟩
  | .hbm, ⟨38, _⟩ => ⟨S32x170x24x512, .f32⟩
  | .hbm, ⟨39, _⟩ => ⟨S32x170x24x512, .f32⟩
  | .hbm, ⟨40, _⟩ => ⟨S32x170x24x1, .i32⟩
  | .hbm, ⟨41, _⟩ => ⟨S32x170x24, .i32⟩
  | .hbm, ⟨42, _⟩ => ⟨S_, .i32⟩
  | .hbm, ⟨43, _⟩ => ⟨S32x170x24, .i32⟩
  | .hbm, ⟨44, _⟩ => ⟨S32x170x24, .i1⟩
  | .hbm, ⟨45, _⟩ => ⟨S_, .i32⟩
  | .hbm, ⟨46, _⟩ => ⟨S32x170x24, .i32⟩
  | .hbm, ⟨47, _⟩ => ⟨S32x170x24, .i32⟩
  | .hbm, ⟨48, _⟩ => ⟨S32x170x24, .i32⟩
  | .hbm, ⟨49, _⟩ => ⟨S32x170x24x1, .i32⟩
  | .hbm, ⟨50, _⟩ => ⟨S1, .i32⟩
  | .hbm, ⟨51, _⟩ => ⟨S_, .i32⟩
  | .hbm, ⟨52, _⟩ => ⟨S32x170x24x1, .i32⟩
  | .hbm, ⟨53, _⟩ => ⟨S32x170x24x1, .i1⟩
  | .hbm, ⟨54, _⟩ => ⟨S1x1x1x1, .i32⟩
  | .hbm, ⟨55, _⟩ => ⟨S32x170x24x1, .i32⟩
  | .hbm, ⟨56, _⟩ => ⟨S32x170x24x1, .i1⟩
  | .hbm, ⟨57, _⟩ => ⟨S32x170x24x1, .i1⟩
  | .hbm, ⟨58, _⟩ => ⟨S_, .i1⟩
  | .hbm, ⟨59, _⟩ => ⟨S32x170x24, .i1⟩
  | .hbm, ⟨60, _⟩ => ⟨S32x170x24x512, .f32⟩
  | .hbm, ⟨61, _⟩ => ⟨S32x170x24x512, .i1⟩
  | .hbm, ⟨62, _⟩ => ⟨S_, .f32⟩
  | .hbm, ⟨63, _⟩ => ⟨S32x170x24x512, .f32⟩
  | .hbm, ⟨64, _⟩ => ⟨S32x170x24x512, .f32⟩
  | .hbm, ⟨65, _⟩ => ⟨S32x170x24x512, .f32⟩
  | _, _ => ⟨S32x288x170, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v14 : Ref sig .tc := ⟨.hbm, 64, rfl⟩
abbrev main_v15 : Ref sig .tc := ⟨.hbm, 65, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Pay

open Cert.KernelIdeal Cert.KernelIdeal.Gen

/-- Row `r` of the sixteen selector rows, at a packed word `z`: one bit, set where `r` is the word's
    upper part, seven more than its low three bits, or fourteen. -/
def pick (z : BitVec 32) (r : Nat) : BitVec 1 :=
  IntOp.ori
    (IntOp.ori (IntOp.cmpi CmpIPredicate.eq (BitVec.ofNat 32 r) (IntOp.shrsi ArithUnit.vector z 3#32))
      (IntOp.cmpi CmpIPredicate.eq (BitVec.ofNat 32 r) (IntOp.addi (IntOp.andi z 7#32) 7#32)))
    (IntOp.cmpi CmpIPredicate.eq (BitVec.ofNat 32 r) 14#32)

/-- Two numbers below seven packed into one word: the first shifted left by three, or-ed with the second. -/
def pack (a b : BitVec 32) : BitVec 32 := IntOp.ori (IntOp.shli ArithUnit.host a 3#32) b

/-- For a word packing `i` and `j`, the selector is set at the rows `i`, `7 + j` and `14` and nowhere else. -/
theorem pick_pack : ∀ (i j : Fin 7) (r : Fin 16),
    pick (pack (BitVec.ofNat 32 i.val) (BitVec.ofNat 32 j.val)) r.val
      = if r ∈ ({⟨i.val, by omega⟩, ⟨7 + j.val, by omega⟩, 14} : Finset (Fin 16)) then 1#1 else 0#1 := by
  decide +kernel

/-- The selector bit as an extended real is one or zero. -/
theorem real_of_bit : (FloatOps.sitofp (F := Ideal) FTy.f32 (BitVec.setWidth 32 1#1) : EReal) = 1
    ∧ (FloatOps.sitofp (F := Ideal) FTy.f32 (BitVec.setWidth 32 0#1) : EReal) = 0 := by
  constructor <;> simp [FloatOps.sitofp]

/-- The sixteen selector rows against any sixteen numbers: the sum of the three numbers selected. -/
theorem sum_pick (i j : Fin 7) (t : Fin 16 → EReal) :
    ∑ r : Fin 16, (FloatOps.sitofp (F := Ideal) FTy.f32
        (BitVec.setWidth 32 (pick (pack (BitVec.ofNat 32 i.val) (BitVec.ofNat 32 j.val)) r.val)) : EReal) * t r
      = t ⟨i.val, by omega⟩ + (t ⟨7 + j.val, by omega⟩ + t 14) := by
  have h : ∀ r : Fin 16, (FloatOps.sitofp (F := Ideal) FTy.f32
        (BitVec.setWidth 32 (pick (pack (BitVec.ofNat 32 i.val) (BitVec.ofNat 32 j.val)) r.val)) : EReal) * t r
      = if r ∈ ({⟨i.val, by omega⟩, ⟨7 + j.val, by omega⟩, 14} : Finset (Fin 16)) then t r else 0 := by
    intro r
    rw [pick_pack]
    split
    · rw [real_of_bit.1, one_mul]
    · rw [real_of_bit.2, zero_mul]
  rw [Finset.sum_congr rfl fun r _ => h r, Finset.sum_ite_mem, Finset.univ_inter,
    Finset.sum_insert, Finset.sum_pair]
  · intro e; have := congrArg Fin.val e; simp at this; omega
  · intro e
    rcases Finset.mem_insert.mp e with e | e
    · have := congrArg Fin.val e; simp at this; omega
    · have := congrArg Fin.val (Finset.mem_singleton.mp e); simp at this; omega

/-- The first twelve rows of the stacked table are the projection matrix. -/
theorem table_weight (W : FVec Ideal S12x512 .f32) (D E : FVec Ideal S7x512 .f32) (b : FVec Ideal S1x512 .f32) (k : Fin 12) (d : Fin 512) :
    k0_pay1 (F := Ideal) W D E b b (ix2 (⟨k.val, by omega⟩ : Fin 28) d) = W (ix2 k d) := by
  pointwise [k0_pay1]

/-- Rows twelve to eighteen of the stacked table are the first seven time-of-day rows. -/
theorem table_day (W : FVec Ideal S12x512 .f32) (D E : FVec Ideal S7x512 .f32) (b : FVec Ideal S1x512 .f32) (i : Fin 7) (d : Fin 512) :
    k0_pay1 (F := Ideal) W D E b b (ix2 (⟨12 + i.val, by omega⟩ : Fin 28) d) = D (ix2 i d) := by
  pointwise [k0_pay1]

/-- Rows nineteen to twenty-five of the stacked table are the seven day-of-week rows. -/
theorem table_week (W : FVec Ideal S12x512 .f32) (D E : FVec Ideal S7x512 .f32) (b : FVec Ideal S1x512 .f32) (j : Fin 7) (d : Fin 512) :
    k0_pay1 (F := Ideal) W D E b b (ix2 (⟨12 + (7 + j.val), by omega⟩ : Fin 28) d) = E (ix2 j d) := by
  pointwise [k0_pay1]

/-- Row twenty-six of the stacked table is the bias. -/
theorem table_bias (W : FVec Ideal S12x512 .f32) (D E : FVec Ideal S7x512 .f32) (b : FVec Ideal S1x512 .f32) (d : Fin 512) :
    k0_pay1 (F := Ideal) W D E b b (ix2 (⟨12 + 14, by omega⟩ : Fin 28) d) = b (ix2 0 d) := by
  pointwise [k0_pay1]

/-- What a grid step stores at row `q`, column `d`, when the packed word of that row holds `i` and `j`: the
    projection of the row's twelve inputs, plus the bias, plus time-of-day row `i`, plus day-of-week row `j`. -/
theorem block_at (x : FVec Ideal S1x288x256 .bf16) (z : IVec S1x170x24 32) (W : FVec Ideal S12x512 .f32)
    (D E : FVec Ideal S7x512 .f32) (b : FVec Ideal S1x512 .f32) (q : Fin 4080) (d : Fin 512) (i j : Fin 7)
    (hz : z (ix3 0 ⟨q.val / 24, by omega⟩ ⟨q.val % 24, by omega⟩) = pack (BitVec.ofNat 32 i.val) (BitVec.ofNat 32 j.val)) :
    k0_pay2 (F := Ideal) x z (k0_pay1 (F := Ideal) W D E b b) (ix3 0 q d)
      = ((∑ k : Fin 12, x (ix3 0 (⟨q.val % 24 * 12 + k.val, by omega⟩ : Fin 288) (⟨q.val / 24, by omega⟩ : Fin 256)) * W (ix2 k d)
          + b (ix2 0 d)) + D (ix2 i d)) + E (ix2 j d) := by
  pointwise [k0_pay2]
  rw [hz]
  have h1 := sum_pick i j fun r => k0_pay1 (F := Ideal) W D E b b (ix2 (⟨12 + r.val, by omega⟩ : Fin 28) d)
  rw [table_day, table_week] at h1
  have h2 := h1.trans (congrArg _ (congrArg _ (table_bias W D E b d)))
  refine (congrArg₂ (· + ·) (Finset.sum_congr rfl fun k _ => congrArg _ (table_weight W D E b k d)) h2).trans ?_
  ac_rfl

end Cert.KernelIdeal.Pay

end
-- ==== Proof.Closed.lean ====
module

public import Idealize.ShloMosaic.Lib.Pointwise

@[expose] public section

noncomputable section

open Idealize.ShloMosaic Idealize.ShloMosaic.TcCoe

namespace Cert.Embed

/-- One entry of the embedding, in closed form: the projection of the twelve readings of step `s` at sensor `p` in
    batch `n`, plus the bias, plus the time-of-day row `i n p s`, plus the day-of-week row `j n p s`, at column `d`. -/
def entry (X : FVec Ideal ⟨3, ![32, 288, 170]⟩ .f32) (W : FVec Ideal ⟨2, ![12, 512]⟩ .f32) (B : FVec Ideal ⟨1, ![512]⟩ .f32)
    (D : FVec Ideal ⟨2, ![288, 512]⟩ .f32) (E : FVec Ideal ⟨2, ![7, 512]⟩ .f32) (i j : Fin 32 → Fin 170 → Fin 24 → Fin 7)
    (n : Fin 32) (p : Fin 170) (s : Fin 24) (d : Fin 512) : EReal :=
  ((∑ k : Fin 12, X (ix3 n (⟨s.val * 12 + k.val, by omega⟩ : Fin 288) p) * W (ix2 k d) + B (ix1 d))
    + D (ix2 (⟨(i n p s).val, by omega⟩ : Fin 288) d)) + E (ix2 (j n p s) d)

end Cert.Embed

end
-- ==== Proof.Grid.lean ====
module

public import proofs.«01_k».proof.Proof.Pay
public import proofs.«01_k».proof.Proof.Closed
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Grid

open Cert.KernelIdeal Cert.KernelIdeal.Gen

variable (m : (ℓ : Loc nD τ sig) → Buf (Elt Ideal) ℓ)

/-- Which block each window is at, at every grid step: the batch for the two inputs and the output, the whole
    array for the tables. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![t.val, 0, 0] :=
  (by decide +kernel : ∀ t : Fin grid0.N, _)

/-- The bias as one row. -/
def bias (B : FVec Ideal S512 .f32) : FVec Ideal S1x512 .f32 := fun y => B (ix1 (y 1))

/-- The first seven rows of the time-of-day table. -/
def days (D : FVec Ideal S288x512 .f32) : FVec Ideal S7x512 .f32 := fun y => D (ix2 (⟨(y 0).val, by have := (y 0).isLt; simp at this; omega⟩ : Fin 288) (y 1))

/-- The stacked table the first grid step builds, over the argument arrays. -/
def table (c : Dev nD) : FVec Ideal S28x512 .bf16 :=
  k0_pay1 (F := Ideal) (m ((c : Thread nD τ).loc main_arg2)) (days (m ((c : Thread nD τ).loc main_arg4)))
    (m ((c : Thread nD τ).loc main_arg5)) (bias (m ((c : Thread nD τ).loc main_arg3))) (bias (m ((c : Thread nD τ).loc main_arg3)))

/-- At the region's entry the reshaped bias is the bias as one row. -/
theorem entry9 (c : Dev nD) : V m c main_v9 = bias (m ((c : Thread nD τ).loc main_arg3)) := by
  simp only [V, V0, hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp
  funext y
  idx_vars y
  pointwise [bias]

/-- At the region's entry the packed indices: the first index shifted left by three, or-ed with the second. -/
theorem entry6 (c : Dev nD) (n : Fin 32) (p : Fin 170) (s : Fin 24) :
    V m c main_v6 (ix3 n p s) = Pay.pack (m ((c : Thread nD τ).loc main_arg1) (ix4 n p s 0)) (m ((c : Thread nD τ).loc main_arg1) (ix4 n p s 1)) := by
  simp only [V, V0, hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp
  pointwise [Pay.pack]

/-- At the region's entry the padded input, on the columns that are not padding. -/
theorem entry8 (c : Dev nD) (n : Fin 32) (r : Fin 288) (p : Fin 170) :
    V m c main_v8 (ix3 n r (⟨p.val, by omega⟩ : Fin 256)) = m ((c : Thread nD τ).loc main_arg0) (ix3 n r p) := by
  simp only [V, V0, hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp
  pointwise

/-- The projection block every grid step sees is the argument itself. -/
theorem iblk2 (c : Dev nD) (t : Fin cfg0.N) : iblk m c 2 t = m ((c : Thread nD τ).loc main_arg2) := by
  blk_ext! [iblk, V, idx t]

/-- The time-of-day table block every grid step sees is the argument itself. -/
theorem iblk3 (c : Dev nD) (t : Fin cfg0.N) : iblk m c 3 t = m ((c : Thread nD τ).loc main_arg4) := by
  blk_ext! [iblk, V, idx t]

/-- The day-of-week table block every grid step sees is the argument itself. -/
theorem iblk4 (c : Dev nD) (t : Fin cfg0.N) : iblk m c 4 t = m ((c : Thread nD τ).loc main_arg5) := by
  blk_ext! [iblk, V, idx t]

/-- The bias block every grid step sees is the bias as one row. -/
theorem iblk5 (c : Dev nD) (t : Fin cfg0.N) : iblk m c 5 t = bias (m ((c : Thread nD τ).loc main_arg3)) := by
  rw [← entry9 m c]
  blk_ext! [iblk, idx t]

/-- The first grid step leaves the stacked table in the scratch buffer. -/
theorem scratch_first (c : Dev nD) (t : Fin cfg0.N) (h : t.val % 32 = 0) : (outsAt0 m c t.val t.isLt).2 = table m c := by
  rw [outsAt0_A m c t h]
  funext y
  frame_out
  rw [iblk2 m c t, iblk3 m c t, iblk4 m c t, iblk5 m c t]
  refine congrFun (congrArg (fun D => k0_pay1 (F := Ideal) _ D _ _ _) ?_) y
  funext z
  idx_vars z
  pointwise [days]

/-- Every grid step leaves the stacked table in the scratch buffer. -/
theorem scratch (c : Dev nD) : ∀ (n : ℕ) (hn : n < cfg0.N), (outsAt0 m c n hn).2 = table m c
  | 0, hn => scratch_first m c ⟨0, hn⟩ (Nat.zero_mod _)
  | n + 1, hn => by
    have hN : n + 1 < 32 := lt_of_lt_of_eq hn (show cfg0.N = 32 from N_0)
    have h := outsAt0_B m c ⟨n + 1, hn⟩ (by show ¬(n + 1) % 32 = 0; omega)
    exact (congrArg Prod.snd h).trans (scratch c n (Nat.lt_of_succ_lt hn))

/-- What a grid step leaves in the output buffer: the body's value over its two input blocks and the table. -/
theorem block (c : Dev nD) (t : Fin cfg0.N) :
    (outsAt0 m c t.val t.isLt).1 = k0_pay2 (F := Ideal) (iblk m c 0 t) (iblk m c 1 t) (table m c) := by
  by_cases h : t.val % 32 = 0
  · rw [← scratch_first m c t h, outsAt0_A m c t h]
    funext y
    frame_out
  · rw [outsAt0_B m c t h]
    funext y
    frame_out
    rw [scratch m c]
    exact congrFun (congrArg (k0_pay2 (F := Ideal) _ _) (Memref.IsWhole.read_unread _ _)) y

/-- The packed block a grid step sees is its batch of the packed indices. -/
theorem iblk1 (c : Dev nD) (t : Fin cfg0.N) (n : Fin 32) (hn : n.val = t.val) (p : Fin 170) (s : Fin 24) :
    iblk m c 1 t (ix3 0 p s) = V m c main_v6 (ix3 n p s) := by
  blk_ext [iblk, idx t]

/-- The input block a grid step sees is its batch of the padded input. -/
theorem iblk0 (c : Dev nD) (t : Fin cfg0.N) (n : Fin 32) (hn : n.val = t.val) (r : Fin 288) (p : Fin 256) :
    iblk m c 0 t (ix3 0 r p) = V m c main_v8 (ix3 n r p) := by
  blk_ext [iblk, idx t]

section Final

variable (c : Dev nD) (i j : Fin 32 → Fin 170 → Fin 24 → Fin 7)
  (hi : ∀ n p s, m ((c : Thread nD τ).loc main_arg1) (ix4 n p s 0) = BitVec.ofNat 32 (i n p s).val)
  (hj : ∀ n p s, m ((c : Thread nD τ).loc main_arg1) (ix4 n p s 1) = BitVec.ofNat 32 (j n p s).val)

/-- The closed form over the launched arrays. -/
def entry (n : Fin 32) (p : Fin 170) (s : Fin 24) (d : Fin 512) : EReal :=
  Cert.Embed.entry (m ((c : Thread nD τ).loc main_arg0)) (m ((c : Thread nD τ).loc main_arg2)) (m ((c : Thread nD τ).loc main_arg3))
    (m ((c : Thread nD τ).loc main_arg4)) (m ((c : Thread nD τ).loc main_arg5)) i j n p s d

include hi hj in
/-- The block a grid step leaves, at row `q` and column `d`, is the closed form at the row's sensor and step. -/
theorem point (t : Fin cfg0.N) (n : Fin 32) (hn : n.val = t.val) (q : Fin 4080) (d : Fin 512) :
    (outsAt0 m c t.val t.isLt).1 (ix3 0 q d) = entry m c i j n ⟨q.val / 24, by omega⟩ ⟨q.val % 24, by omega⟩ d := by
  rw [block m c t]
  refine (Pay.block_at _ _ _ _ _ _ q d (i n ⟨q.val / 24, by omega⟩ ⟨q.val % 24, by omega⟩)
    (j n ⟨q.val / 24, by omega⟩ ⟨q.val % 24, by omega⟩) ?_).trans ?_
  · rw [iblk1 m c t n hn, entry6, hi, hj]
  · unfold entry Cert.Embed.entry
    refine congrArg₂ (· + ·) (congrArg₂ (· + ·) (congrArg₂ (· + ·) (Finset.sum_congr rfl fun k _ => ?_) rfl) rfl) rfl
    refine congrArg (· * _) ((iblk0 m c t n hn _ _).trans (entry8 m c n _ ⟨q.val / 24, by omega⟩))

include hi hj in
/-- The array the kernel writes, after the run: the closed form, row `q` holding sensor `q / 24` and step `q % 24`. -/
theorem final : (dats m 0 c).arrAt 6 (cfgs 0).N = fun y : S32x4080x512.Idx =>
    entry m c i j (y 0) ⟨(y 1).val / 24, by have : (y 1).val < 4080 := (y 1).isLt; omega⟩ ⟨(y 1).val % 24, by omega⟩ (y 2) := by
  refine (dats m 0 c).arrAt_eq_of_covers 6 _ (by decide +kernel) fun t _ y => ?_
  blk_simp
  rw [after0_6]
  have hN : t.val < 32 := lt_of_lt_of_eq t.isLt (show cfg0.N = 32 from N_0)
  have h0 : (y 0).val < 1 := (y 0).isLt
  have h1 : (y 1).val < 4080 := (y 1).isLt
  have h2 : (y 2).val < 512 := (y 2).isLt
  have e : y = (ix3 0 (⟨(y 1).val, h1⟩ : Fin 4080) (⟨(y 2).val, h2⟩ : Fin 512) : S1x4080x512.Idx) := by
    refine (eq_ix3 (n0 := 1) (n1 := 4080) (n2 := 512) y).trans ((ix3_inj ..).2 ⟨Fin.ext ?_, rfl, rfl⟩)
    show (y 0).val = 0
    omega
  refine (congrArg (outsAt0 m c t.val t.isLt).1 e).trans ((point m c i j hi hj t ⟨t.val, hN⟩ rfl ⟨(y 1).val, h1⟩ ⟨(y 2).val, h2⟩).trans ?_)
  have e0 : (win0_6.blk t).view.emb y 0 = (⟨t.val, hN⟩ : Fin 32) := by
    apply Fin.ext; blk_simp [idx t]
  have e2 : (win0_6.blk t).view.emb y 2 = (⟨(y 2).val, h2⟩ : Fin 512) := by
    apply Fin.ext; blk_simp [idx t]
  have e1 : win0_6.index t 1 = 0 := by rw [(idx t).2.2.2.2.2.2]; rfl
  simp only [e1, Nat.zero_mul, Nat.zero_add]
  exact congrArg₂ (fun a b => entry m c i j a _ _ b) e0.symm e2.symm

end Final

end Cert.KernelIdeal.Grid

end
-- ==== Proof.Result.lean ====
module

public import proofs.«01_k».proof.Proof.Grid

@[expose] public section

set_option maxRecDepth 16384

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ)

/-- The result buffer after the last host line: the region's output array, its rows split into sensors and steps. -/
theorem tail (c : Dev nD) : Pipeline.afterTail₀ cfgs (dats m) 0 (V0 m) [hostOps1] c main_v11
    = shapeCast S32x170x24x512 (show FVec Ideal S32x4080x512 .f32 from (dats m 0 c).arrAt 6 (cfgs 0).N) shapeCasts_S32x4080x512_S32x170x24x512 := by
  have h := Pipeline.withArrays_arr spec0 launch0.win.arr_inj c (V0 m c) (fun w => (dats m 0 c).arrAt w (cfgs 0).N) 6
  unfold Pipeline.afterTail₀
  simp only [hostOps1, List.flatten_cons, List.flatten_nil, List.cons_append, List.nil_append, List.append_nil]
  after_results_simp
  exact congrArg (fun A => shapeCast S32x170x24x512 A shapeCasts_S32x4080x512_S32x170x24x512) h

/-- From any launch whose index pairs are `i` and `j` on every device, the program ends with the result at the closed
    form and every argument as it was. -/
theorem run (ρ : Dev nD → PrngReg) (i j : Dev nD → Fin 32 → Fin 170 → Fin 24 → Fin 7)
    (hi : ∀ (c : Dev nD) n p s, m ((c : Thread nD τ).loc main_arg1) (ix4 n p s 0) = BitVec.ofNat 32 (i c n p s).val)
    (hj : ∀ (c : Dev nD) n p s, m ((c : Thread nD τ).loc main_arg1) (ix4 n p s 1) = BitVec.ofNat 32 (j c n p s).val) :
    θ_run defs (onTc (τ := τ) (main (F := Ideal))) ⟨m, fun _ => 0, ρ⟩ fun r => ∀ c : Dev nD,
      r.2.mem ((c.tc : Thread nD τ).loc main_v11)
        = (fun y : S32x170x24x512.Idx => Grid.entry m c (i c) (j c) (y 0) (y 1) (y 2) (y 3)) := by
  refine (θ_run defs _ _).mono (fun r h c => ?_) (run_main m ρ)
  refine ((h c).2 main_v11 (Pipeline.mem_restRefs_of main_v11 (by decide) (by decide))).trans ?_
  rw [tail m c, Grid.final m c (i c) (j c) (hi c) (hj c)]
  funext y
  idx_vars y
  pointwise
  exact congrArg₂ (fun a b => Grid.entry m c (i c) (j c) y0 a b y3)
    (Fin.ext (by show (y1.val * 24 + y2.val) / 24 = y1.val; omega)) (Fin.ext (by show (y1.val * 24 + y2.val) % 24 = y2.val; omega))

end Cert.KernelIdeal.Result

end
-- ==== Proof.Ref.lean ====
module

public import proofs.«01_k».proof.Proof.Closed
public import proofs.«01_k».proof.Proof.Gen.ReferenceIdeal.Run
public import Idealize.ShloMosaic.Lib.ValueIdxCore
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.ReferenceIdeal.Read

open Cert.ReferenceIdeal Cert.ReferenceIdeal.Gen

/-! ## The pieces of the reference's result -/

/-- The projection of every row plus the bias, as batches of sensors and steps. -/
def proj (X : FVec Ideal S32x288x170 .f32) (W : FVec Ideal S12x512 .f32) (B : FVec Ideal S512 .f32) : FVec Ideal S32x170x24x512 .f32 :=
  shapeCast _ (addf (Host.dotGeneral dot_S130560x12_S12x512_S130560x512_1_0_0_1_n_n none
      (shapeCast _ (transpose S32x170x24x12 [0, 3, 1, 2] (shapeCast _ X shapeCasts_S32x288x170_S32x24x12x170)
        transposes_S32x24x12x170_S32x170x24x12_0_3_1_2) shapeCasts_S32x170x24x12_S130560x12) W)
    (broadcastInDim S130560x512 ![0, 1] bcast_S1x512_S130560x512_0_1 (broadcastInDim S1x512 ![1] bcast_S512_S1x512_1 B)))
    shapeCasts_S130560x512_S32x170x24x512

/-- The first index of every pair. -/
def first (I : IVec S32x170x24x2 32) : IVec S32x170x24 32 :=
  shapeCast _ (extractStridedSlice S32x170x24x1 ![0, 0, 0, 0] I slices_S32x170x24x2_S32x170x24x1_0_0_0_0) shapeCasts_S32x170x24x1_S32x170x24

/-- The second index of every pair. -/
def second (I : IVec S32x170x24x2 32) : IVec S32x170x24 32 :=
  shapeCast _ (extractStridedSlice S32x170x24x1 ![0, 0, 0, 1] I slices_S32x170x24x2_S32x170x24x1_0_0_0_1) shapeCasts_S32x170x24x1_S32x170x24

/-- Indices with the negative ones counted from the end of a table of `w` rows. -/
def wrap (I : IVec S32x170x24 32) (w : BitVec 32) : IVec S32x170x24x1 32 :=
  broadcastInDim S32x170x24x1 ![0, 1, 2] bcast_S32x170x24_S32x170x24x1_0_1_2
    (select (cmpi .slt I (broadcastInDim S32x170x24 ![] bcast_S_S32x170x24 (constantI S_ 32 0#32)))
      (addi I (broadcastInDim S32x170x24 ![] bcast_S_S32x170x24 (constantI S_ 32 w))) I)

/-- Whether each index lies between zero and `l`. -/
def inside (J : IVec S32x170x24x1 32) (l : BitVec 32) : IVec S32x170x24 1 :=
  Host.reduce IntOp.andi (andi (cmpi .sge J (broadcastInDim S32x170x24x1 ![] bcast_S_S32x170x24x1 (constantI S_ 32 0#32)))
    (cmpi .sle J (broadcastInDim S32x170x24x1 ![0, 1, 2, 3] bcast_S1x1x1x1_S32x170x24x1_0_1_2_3
      (broadcastInDim S1x1x1x1 ![3] bcast_S1_S1x1x1x1_3 (constantI S1 32 l))))) (constantI S_ 1 1#1)
    reducesTo_S32x170x24x1_S32x170x24_d3 h_S_

/-- The gathered rows where the mask holds, the fill value elsewhere. -/
def keep (M : IVec S32x170x24 1) (G : FVec Ideal S32x170x24x512 .f32) : FVec Ideal S32x170x24x512 .f32 :=
  select (broadcastInDim S32x170x24x512 ![0, 1, 2] bcast_S32x170x24_S32x170x24x512_0_1_2 M) G
    (broadcastInDim S32x170x24x512 ![] bcast_S_S32x170x24x512 (constant S_ .f32 0x7FC00000#32))

/-- The reference's result is the projection plus the two looked-up rows. -/
theorem result_eq (m : (ℓ : Loc nD τ sig) → Buf (Elt Ideal) ℓ) (c : Dev nD) : Value.res_out0 m c
    = addf (addf (proj (m ((c.tc : Thread nD τ).loc main_arg0)) (m ((c.tc : Thread nD τ).loc main_arg2)) (m ((c.tc : Thread nD τ).loc main_arg3)))
        (keep (inside (wrap (first (m ((c.tc : Thread nD τ).loc main_arg1))) 288#32) 287#32)
          (Host.gather gather_S288x512_S32x170x24x1_S32x170x24x512_3_0_n_n_0_3_1512 (m ((c.tc : Thread nD τ).loc main_arg4))
            (wrap (first (m ((c.tc : Thread nD τ).loc main_arg1))) 288#32))))
        (keep (inside (wrap (second (m ((c.tc : Thread nD τ).loc main_arg1))) 7#32) 6#32)
          (Host.gather gather_S7x512_S32x170x24x1_S32x170x24x512_3_0_n_n_0_3_1512 (m ((c.tc : Thread nD τ).loc main_arg5))
            (wrap (second (m ((c.tc : Thread nD τ).loc main_arg1))) 7#32))) := rfl

/-! ## Each piece read at an index -/

/-- The projection at one row and column: twelve products and the bias. -/
theorem proj_at (X : FVec Ideal S32x288x170 .f32) (W : FVec Ideal S12x512 .f32) (B : FVec Ideal S512 .f32)
    (n : Fin 32) (p : Fin 170) (s : Fin 24) (d : Fin 512) :
    proj X W B (ix4 n p s d) = ∑ k : Fin 12, X (ix3 n (⟨s.val * 12 + k.val, by omega⟩ : Fin 288) p) * W (ix2 k d) + B (ix1 d) := by
  pointwise [proj]

/-- The first index of a pair, read at the pair. -/
theorem first_at (I : IVec S32x170x24x2 32) (n : Fin 32) (p : Fin 170) (s : Fin 24) : first I (ix3 n p s) = I (ix4 n p s 0) := by
  pointwise [first]

/-- The second index of a pair, read at the pair. -/
theorem second_at (I : IVec S32x170x24x2 32) (n : Fin 32) (p : Fin 170) (s : Fin 24) : second I (ix3 n p s) = I (ix4 n p s 1) := by
  pointwise [second]

/-- A small number as a word is not negative. -/
theorem not_neg : ∀ i : Fin 7, IntOp.cmpi .slt (BitVec.ofNat 32 i.val) 0#32 = 0#1 := by decide +kernel

/-- Wrapping leaves an index below seven as it is. -/
theorem wrap_at (I : IVec S32x170x24 32) (w : BitVec 32) (n : Fin 32) (p : Fin 170) (s : Fin 24) (i : Fin 7)
    (h : I (ix3 n p s) = BitVec.ofNat 32 i.val) : wrap I w (ix4 n p s 0) = BitVec.ofNat 32 i.val := by
  pointwise [wrap]
  rw [h, not_neg]
  rfl

/-- When every index is below seven and seven is at most one more than the bound, the mask holds everywhere. -/
theorem inside_at (J : IVec S32x170x24x1 32) (l : BitVec 32) (i : Fin 32 → Fin 170 → Fin 24 → Fin 7)
    (hJ : ∀ n p s, J (ix4 n p s 0) = BitVec.ofNat 32 (i n p s).val)
    (hl : ∀ a : Fin 7, IntOp.andi (IntOp.cmpi .sge (BitVec.ofNat 32 a.val) 0#32) (IntOp.cmpi .sle (BitVec.ofNat 32 a.val) l) = 1#1)
    (y : S32x170x24.Idx) : inside J l y = 1#1 := by
  refine Host.reduce_andi_one _ _ _ _ _ rfl fun z => ?_
  idx_vars z
  obtain rfl : z3 = 0 := Subsingleton.elim _ _
  pointwise
  rw [hJ]
  exact hl _

/-- Where the mask holds, the gathered row is kept. -/
theorem keep_at (M : IVec S32x170x24 1) (G : FVec Ideal S32x170x24x512 .f32) (n : Fin 32) (p : Fin 170) (s : Fin 24) (d : Fin 512)
    (h : M (ix3 n p s) = 1#1) : keep M G (ix4 n p s d) = G (ix4 n p s d) := by
  pointwise [keep]
  rw [h]
  rfl

section Gather

variable {α : Type} {N : Nat}

/-- The dimension numbers of a whole-row lookup in a table of `N` rows, one row for every index. -/
abbrev rowDims (N : Nat) (wf : GatherDims.WF ⟨2, ![N, 512]⟩ S32x170x24x1 S32x170x24x512 [3] [0] [] [0] [] 3 ![1, 512]) :
    GatherDims ⟨2, ![N, 512]⟩ S32x170x24x1 S32x170x24x512 where
  offsetDims := [3]
  collapsedSliceDims := [0]
  operandBatchingDims := []
  startIndicesBatchingDims := []
  startIndexMap := [0]
  indexVectorDim := 3
  sliceSizes := ![1, 512]
  wf := wf

/-- A whole-row lookup read at an index: the row its word names, at the same column, when that row is in the table. -/
theorem rows_at (wf : GatherDims.WF ⟨2, ![N, 512]⟩ S32x170x24x1 S32x170x24x512 [3] [0] [] [0] [] 3 ![1, 512])
    (T : (⟨2, ![N, 512]⟩ : Shape).Idx → α) (J : IVec S32x170x24x1 32) (n : Fin 32) (p : Fin 170) (s : Fin 24) (d : Fin 512)
    (a : Fin N) (ha : (J (ix4 n p s 0)).toInt.toNat = a.val) :
    Host.gather (rowDims N wf) T J (ix4 n p s d) = T (ix2 a d) := by
  have hs : (rowDims N wf).start (ix4 n p s d) J 0 = a.val := by
    unfold GatherDims.start
    rw [dif_pos (show (0 : Fin 2) ∈ (rowDims N wf).startIndexMap from List.mem_singleton.mpr rfl)]
    have e : (rowDims N wf).siIdx (ix4 n p s d) ⟨List.idxOf (0 : Fin 2) (rowDims N wf).startIndexMap,
        List.idxOf_lt_length_iff.2 (List.mem_singleton.mpr rfl)⟩ = ix4 n p s 0 := by
      funext b
      match b with
      | ⟨0, _⟩ => rfl
      | ⟨1, _⟩ => rfl
      | ⟨2, _⟩ => rfl
      | ⟨3, _⟩ => rfl
    rw [e, ha]
    show min a.val (N - 1) = a.val
    have := a.isLt
    omega
  unfold Host.gather
  refine congrArg T ?_
  funext b
  refine Fin.ext ?_
  match b with
  | ⟨0, _⟩ =>
    show (rowDims N wf).start (ix4 n p s d) J 0 + (rowDims N wf).batchCoord (ix4 n p s d) 0 + (rowDims N wf).offCoord (ix4 n p s d) 0 = a.val
    rw [hs, GatherDims.batchCoord_eq_zero _ _ _ List.not_mem_nil,
      GatherDims.offCoord_eq_zero _ _ _ (fun h => ((GatherDims.mem_sKept _ _).mp h).1 (List.mem_singleton.mpr rfl))]
    rfl
  | ⟨1, _⟩ =>
    show (rowDims N wf).start (ix4 n p s d) J 1 + (rowDims N wf).batchCoord (ix4 n p s d) 1 + (rowDims N wf).offCoord (ix4 n p s d) 1 = d.val
    have h1 : (rowDims N wf).start (ix4 n p s d) J 1 = 0 := by
      unfold GatherDims.start
      rw [dif_neg (by simp)]
    rw [h1, GatherDims.batchCoord_eq_zero _ _ _ List.not_mem_nil, Nat.zero_add]
    unfold GatherDims.offCoord
    rw [dif_pos ((GatherDims.mem_sKept _ _).mpr ⟨by simp, List.not_mem_nil⟩)]
    rfl

end Gather

/-- A small number survives being written as a word and read back. -/
theorem word_back : ∀ i : Fin 7, (BitVec.ofNat 32 i.val).toInt.toNat = i.val := by decide +kernel

/-- The reference's result at an index, when the index pairs are `i` and `j`: the closed form. -/
theorem result_at (m : (ℓ : Loc nD τ sig) → Buf (Elt Ideal) ℓ) (c : Dev nD) (i j : Fin 32 → Fin 170 → Fin 24 → Fin 7)
    (hi : ∀ n p s, m ((c.tc : Thread nD τ).loc main_arg1) (ix4 n p s 0) = BitVec.ofNat 32 (i n p s).val)
    (hj : ∀ n p s, m ((c.tc : Thread nD τ).loc main_arg1) (ix4 n p s 1) = BitVec.ofNat 32 (j n p s).val)
    (n : Fin 32) (p : Fin 170) (s : Fin 24) (d : Fin 512) :
    Value.res_out0 m c (ix4 n p s d) = Cert.Embed.entry (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) i j n p s d := by
  have h0 : ∀ n p s, wrap (first (m ((c.tc : Thread nD τ).loc main_arg1))) 288#32 (ix4 n p s 0) = BitVec.ofNat 32 (i n p s).val :=
    fun n p s => wrap_at _ _ n p s _ ((first_at _ n p s).trans (hi n p s))
  have h1 : ∀ n p s, wrap (second (m ((c.tc : Thread nD τ).loc main_arg1))) 7#32 (ix4 n p s 0) = BitVec.ofNat 32 (j n p s).val :=
    fun n p s => wrap_at _ _ n p s _ ((second_at _ n p s).trans (hj n p s))
  rw [result_eq]
  unfold Cert.Embed.entry
  refine congrArg₂ (· + ·) (congrArg₂ (· + ·) (proj_at _ _ _ n p s d) ?_) ?_
  · refine (keep_at _ _ n p s d (inside_at _ _ i h0 (by decide +kernel) _)).trans ?_
    exact rows_at _ _ _ n p s d _ ((congrArg (fun w => w.toInt.toNat) (h0 n p s)).trans (word_back _))
  · refine (keep_at _ _ n p s d (inside_at _ _ j h1 (by decide +kernel) _)).trans ?_
    exact rows_at _ _ _ n p s d _ ((congrArg (fun w => w.toInt.toNat) (h1 n p s)).trans (word_back _))

end Cert.ReferenceIdeal.Read

end
-- ==== Proof.Domain.lean ====
module

public import proofs.«01_k».proof.Pre_in_range
public import proofs.«01_k».proof.Proof.Gen.Pre_in_range
public import Idealize.ShloMosaic.Lib.Pointwise
public import Idealize.ShloMosaic.Lib.ReduceAll
public import Idealize.ShloMosaic.Lib.Affine

@[expose] public section

set_option maxRecDepth 16384

noncomputable section

open Idealize.ShloMosaic Idealize.ShloMosaic.TcCoe

namespace Cert.Pre_in_range.Domain

open Cert.Pre_in_range Cert.Pre_in_range.Gen

/-- A word as a number below seven (its remainder, when it is not one already). -/
def low (w : BitVec 32) : Fin 7 := ⟨w.toNat % 7, Nat.mod_lt _ (by decide)⟩

/-- A word between zero and six, read signed, is the word of the number `low` gives. -/
theorem eq_low (w : BitVec 32) (h0 : IntOp.cmpi .sge w 0#32 = 1#1) (h1 : IntOp.cmpi .slt w 7#32 = 1#1) :
    w = BitVec.ofNat 32 (low w).val := by
  rw [IntOp.cmpi_sge, show (0#32 : BitVec 32).toInt = 0 from by decide] at h0
  rw [IntOp.cmpi_slt, show (7#32 : BitVec 32).toInt = 7 from by decide] at h1
  have hw : w.toNat < 7 := by
    rw [BitVec.toInt_eq_toNat_cond] at h0 h1
    have := w.isLt
    split at h0 <;> omega
  apply BitVec.eq_of_toNat_eq
  show w.toNat = (BitVec.ofNat 32 (w.toNat % 7)).toNat
  rw [BitVec.toNat_ofNat]
  omega

/-- Under the precondition every index is the word of a number below seven. -/
theorem index_eq (a0 : FVec Ideal S32x288x170 .f32) (I : IVec S32x170x24x2 32) (a2 : FVec Ideal S12x512 .f32)
    (a3 : FVec Ideal S512 .f32) (a4 : FVec Ideal S288x512 .f32) (a5 : FVec Ideal S7x512 .f32)
    (h : fn (F := Ideal) a0 I a2 a3 a4 a5 = fun _ => 1#1) (n : Fin 32) (p : Fin 170) (s : Fin 24) (e : Fin 2) :
    I (ix4 n p s e) = BitVec.ofNat 32 (low (I (ix4 n p s e))).val := by
  have h' := congrFun h (fun a => a.elim0)
  dsimp only [fn] at h'
  haveI : Subsingleton S_.Idx := ⟨fun x y => funext fun a => a.elim0⟩
  have hz := Host.reduce_andi_all _ _ _ _ _ h' (ix4 n p s e)
  pointwise at hz
  obtain ⟨hz0, hz1⟩ := IntOp.andi_eq_one.mp hz
  exact eq_low _ hz0 hz1

end Cert.Pre_in_range.Domain

end
-- ==== Proof.lean ====
module

public import proofs.«01_k».proof.Proof.Gen.ReferenceIdeal.Run
public import proofs.«01_k».proof.Defs
public import proofs.«01_k».proof.Proof.Result
public import proofs.«01_k».proof.Proof.Ref
public import proofs.«01_k».proof.Proof.Domain
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_in_range.Gen.facts

/-- The reference runs, leaves its arguments as they were, and has no counters to leave raised. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- Under the precondition, kernel and reference end with the same result, and both leave their arguments as they were. -/
theorem equal : Cert.algebraic_KernelIdeal_ReferenceIdeal_pre_in_range := by
  intro m g m' g' hpre hagree
  have hI := fun c => Cert.Pre_in_range.Domain.index_eq _ _ _ _ _ _ (hpre c)
  let i : Dev Cert.KernelIdeal.nD → Fin 32 → Fin 170 → Fin 24 → Fin 7 := fun c n p s =>
    Cert.Pre_in_range.Domain.low (m ((c.tc : Thread Cert.KernelIdeal.nD Cert.KernelIdeal.τ).loc Cert.KernelIdeal.main_arg1) (ix4 n p s 0))
  let j : Dev Cert.KernelIdeal.nD → Fin 32 → Fin 170 → Fin 24 → Fin 7 := fun c n p s =>
    Cert.Pre_in_range.Domain.low (m ((c.tc : Thread Cert.KernelIdeal.nD Cert.KernelIdeal.τ).loc Cert.KernelIdeal.main_arg1) (ix4 n p s 1))
  refine ⟨fun c => fun y : Cert.KernelIdeal.S32x170x24x512.Idx => Cert.KernelIdeal.Grid.entry m c (i c) (j c) (y 0) (y 1) (y 2) (y 3), ?_, ?_⟩
  · exact (θ_run Cert.KernelIdeal.defs _ _).mono (fun r h c => ⟨h.1 c, h.2 c⟩)
      (θ_run_and (Cert.KernelIdeal.Result.run m g i j (fun c n p s => hI c n p s 0) (fun c n p s => hI c n p s 1))
        (Cert.KernelIdeal.Gen.unchanged m g))
  · refine (θ_run Cert.ReferenceIdeal.defs _ _).mono (fun r h c => ⟨(h c).1.trans ?_, (h c).2⟩) (Cert.ReferenceIdeal.Value.run (F := Ideal) m' g')
    obtain ⟨h0, h1, h2, h3, h4, h5⟩ := hagree c
    funext y
    idx_vars y
    refine (Cert.ReferenceIdeal.Read.result_at m' c (i c) (j c) (fun n p s => (congrFun h1 _).trans (hI c n p s 0))
      (fun n p s => (congrFun h1 _).trans (hI c n p s 1)) y0 y1 y2 y3).trans ?_
    rw [h0, h2, h3, h4, h5]
    rfl

/-- The certificate: the three frames, the preservation claim and the equality of results. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  equal⟩

end Cert.Proof

end
